-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_covered [hPre_finite_covered : Cert.Pre_finite_covered.Facts] (m : (ℓ : Loc Cert.KernelIdeal.nD Cert.KernelIdeal.τ Cert.KernelIdeal.sig) → Buf (Elt Ideal) ℓ) : Prop :=
  ∀ c : Dev Cert.KernelIdeal.nD,
    (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_finite_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_covered [hPre_finite_covered : Cert.Pre_finite_covered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_finite_covered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_covered [hKernelIdeal : Cert.KernelIdeal.Facts] [hPre_finite_covered : Cert.Pre_finite_covered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_covered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_covered [hReferenceIdeal : Cert.ReferenceIdeal.Facts] [hPre_finite_covered : Cert.Pre_finite_covered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_covered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_covered [hKernelIdeal : Cert.KernelIdeal.Facts] [hReferenceIdeal : Cert.ReferenceIdeal.Facts] [hPre_finite_covered : Cert.Pre_finite_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_covered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_covered : Cert.Pre_finite_covered.Facts),
    quiescent_Kernel (hKernel := hKernel)
    ∧ quiescent_KernelIdeal (hKernelIdeal := hKernelIdeal)
    ∧ quiescent_KernelIdeal_pre_finite_covered (hKernelIdeal := hKernelIdeal) (hPre_finite_covered := hPre_finite_covered)
    ∧ quiescent_ReferenceIdeal (hReferenceIdeal := hReferenceIdeal)
    ∧ quiescent_ReferenceIdeal_pre_finite_covered (hReferenceIdeal := hReferenceIdeal) (hPre_finite_covered := hPre_finite_covered)
    ∧ preserves_Kernel_KernelIdeal
    ∧ algebraic_KernelIdeal_ReferenceIdeal_pre_finite_covered (hKernelIdeal := hKernelIdeal) (hReferenceIdeal := hReferenceIdeal) (hPre_finite_covered := hPre_finite_covered)
-- ==== Pre_finite_covered.lean ====
abbrev S128x128 : Shape := ⟨2, ![128, 128]⟩
abbrev S32x128 : Shape := ⟨2, ![32, 128]⟩
abbrev S32x16 : Shape := ⟨2, ![32, 16]⟩
abbrev S128x16 : Shape := ⟨2, ![128, 16]⟩
abbrev S384x128 : Shape := ⟨2, ![384, 128]⟩
abbrev S384 : Shape := ⟨1, ![384]⟩
abbrev S128 : Shape := ⟨1, ![128]⟩
abbrev S_ : Shape := ⟨0, ![]⟩
abbrev S256x128 : Shape := ⟨2, ![256, 128]⟩

class Facts : Prop where
  bcast_S_S128x128 : S_.BroadcastsInDim S128x128 (![] : Fin 0 → Fin S128x128.rank)
  bcast_S_S32x128 : S_.BroadcastsInDim S32x128 (![] : Fin 0 → Fin S32x128.rank)
  reducesTo_S32x128_S128_d0 : S32x128.ReducesTo [0] S128
  h_S_ : 0 < S_.numel
  bcast_S_S32x16 : S_.BroadcastsInDim S32x16 (![] : Fin 0 → Fin S32x16.rank)
  bcast_S_S128x16 : S_.BroadcastsInDim S128x16 (![] : Fin 0 → Fin S128x16.rank)
  slices_S384x128_S256x128_0_0 : S384x128.Slices ![0, 0] S256x128
  bcast_S_S256x128 : S_.BroadcastsInDim S256x128 (![] : Fin 0 → Fin S256x128.rank)
  slices_S384_S128_0 : S384.Slices ![0] S128
  bcast_S_S128 : S_.BroadcastsInDim S128 (![] : Fin 0 → Fin S128.rank)
  slices_S384_S128_128 : S384.Slices ![128] S128
  slices_S384_S128_256 : S384.Slices ![256] S128

variable [Facts]

def fn_part1 {F : FTy → Type} [FloatOps F] (main_arg6 : FVec F S384 .f32) (main_arg8 : FVec F S128 .f32) (main_v2 : IVec S128x128 1) (main_v5 : IVec S128 1) (main_v8 : IVec S32x16 1) (main_v11 : IVec S128x128 1) (main_v14 : IVec S128x16 1) (main_v16 : FVec F S256x128 .f32) (main_cst_4 : FVec F S_ .f32) : IVec S128x128 1 × IVec S128 1 × IVec S32x16 1 × IVec S128x128 1 × IVec S128x16 1 × IVec S256x128 1 × IVec S128 1 × IVec S128 1 × IVec S128 1 × IVec S128 1 :=
  let main_v17 : FVec F S256x128 .f32 := broadcastInDim S256x128 ![] bcast_S_S256x128 main_cst_4
  let main_v18 : IVec S256x128 1 := cmpf .olt main_v16 main_v17
  let main_v19 : FVec F S128 .f32 := (extractStridedSlice S128 ![0] · slices_S384_S128_0) main_arg6
  let main_cst_5 : FVec F S_ .f32 := constant S_ .f32 0x00000000#32
  let main_v20 : FVec F S128 .f32 := broadcastInDim S128 ![] bcast_S_S128 main_cst_5
  let main_v21 : IVec S128 1 := cmpf .oeq main_v19 main_v20
  let main_v22 : FVec F S128 .f32 := (extractStridedSlice S128 ![128] · slices_S384_S128_128) main_arg6
  let main_v23 : FVec F S128 .f32 := Host.absf main_v22
  let main_cst_6 : FVec F S_ .f32 := constant S_ .f32 0x7F800000#32
  let main_v24 : FVec F S128 .f32 := broadcastInDim S128 ![] bcast_S_S128 main_cst_6
  let main_v25 : IVec S128 1 := cmpf .olt main_v23 main_v24
  let main_v26 : FVec F S128 .f32 := (extractStridedSlice S128 ![256] · slices_S384_S128_256) main_arg6
  let main_cst_7 : FVec F S_ .f32 := constant S_ .f32 0x00000000#32
  let main_v27 : FVec F S128 .f32 := broadcastInDim S128 ![] bcast_S_S128 main_cst_7
  let main_v28 : IVec S128 1 := cmpf .oeq main_v26 main_v27
  let main_cst_8 : FVec F S_ .f32 := constant S_ .f32 0x00000000#32
  let main_v29 : FVec F S128 .f32 := broadcastInDim S128 ![] bcast_S_S128 main_cst_8
  let main_v30 : IVec S128 1 := cmpf .oeq main_arg8 main_v29
  (main_v2, main_v5, main_v8, main_v11, main_v14, main_v18, main_v21, main_v25, main_v28, main_v30)

def fn {F : FTy → Type} [FloatOps F] (main_arg0 : FVec F S128x128 .f32) (main_arg1 : IVec S32x128 32) (main_arg2 : FVec F S32x16 .f32) (main_arg3 : FVec F S128x128 .f32) (main_arg4 : FVec F S128x16 .f32) (main_arg5 : FVec F S384x128 .f32) (main_arg6 : FVec F S384 .f32) (main_arg7 : FVec F S128x128 .f32) (main_arg8 : FVec F S128 .f32) : IVec S128x128 1 × IVec S128 1 × IVec S32x16 1 × IVec S128x128 1 × IVec S128x16 1 × IVec S256x128 1 × IVec S128 1 × IVec S128 1 × IVec S128 1 × IVec S128 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 32 := constantI S_ 32 0#32
  let main_v3 : IVec S32x128 32 := broadcastInDim S32x128 ![] bcast_S_S32x128 main_c
  let main_v4 : IVec S32x128 1 := cmpi .ne main_arg1 main_v3
  let main_c_0 : IVec S_ 1 := constantI S_ 1 0#1
  let main_v5 : IVec S128 1 := (fun x v => Host.reduce IntOp.ori x v reducesTo_S32x128_S128_d0 h_S_) main_v4 main_c_0
  let main_v6 : FVec F S32x16 .f32 := Host.absf main_arg2
  let main_cst_1 : FVec F S_ .f32 := constant S_ .f32 0x7F800000#32
  let main_v7 : FVec F S32x16 .f32 := broadcastInDim S32x16 ![] bcast_S_S32x16 main_cst_1
  let main_v8 : IVec S32x16 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128x16 .f32 := Host.absf main_arg4
  let main_cst_3 : FVec F S_ .f32 := constant S_ .f32 0x7F800000#32
  let main_v13 : FVec F S128x16 .f32 := broadcastInDim S128x16 ![] bcast_S_S128x16 main_cst_3
  let main_v14 : IVec S128x16 1 := cmpf .olt main_v12 main_v13
  let main_v15 : FVec F S256x128 .f32 := (extractStridedSlice S256x128 ![0, 0] · slices_S384x128_S256x128_0_0) main_arg5
  let main_v16 : FVec F S256x128 .f32 := Host.absf main_v15
  let main_cst_4 : FVec F S_ .f32 := constant S_ .f32 0x7F800000#32
  fn_part1 (F := F) main_arg6 main_arg8 main_v2 main_v5 main_v8 main_v11 main_v14 main_v16 main_cst_4
-- ==== Kernel.lean ====
abbrev S128x128 : Shape := ⟨2, ![128, 128]⟩
abbrev S32x128 : Shape := ⟨2, ![32, 128]⟩
abbrev S32x16 : Shape := ⟨2, ![32, 16]⟩
abbrev S128x16 : Shape := ⟨2, ![128, 16]⟩
abbrev S384x128 : Shape := ⟨2, ![384, 128]⟩
abbrev S384 : Shape := ⟨1, ![384]⟩
abbrev S128 : Shape := ⟨1, ![128]⟩
abbrev S16x32 : Shape := ⟨2, ![16, 32]⟩
abbrev S128x32 : Shape := ⟨2, ![128, 32]⟩
abbrev S128x1 : Shape := ⟨2, ![128, 1]⟩
abbrev S16x128 : Shape := ⟨2, ![16, 128]⟩

abbrev nBuf : Space → Nat
  | .hbm => 10
  | .vmem => 9
  | .smem => 0
  | _ => 0

abbrev bufTy : (tb : Table) → Fin (tcTables nBuf tb) → BufTy
  | .hbm, ⟨0, _⟩ => ⟨S128x128, .f32⟩
  | .hbm, ⟨1, _⟩ => ⟨S32x128, .i32⟩
  | .hbm, ⟨2, _⟩ => ⟨S32x16, .f32⟩
  | .hbm, ⟨3, _⟩ => ⟨S128x128, .f32⟩
  | .hbm, ⟨4, _⟩ => ⟨S128x16, .f32⟩
  | .hbm, ⟨5, _⟩ => ⟨S384x128, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .local _ .vmem, ⟨0, _⟩ => ⟨S128x128, .f32⟩
  | .local _ .vmem, ⟨1, _⟩ => ⟨S32x128, .i32⟩
  | .local _ .vmem, ⟨2, _⟩ => ⟨S32x16, .f32⟩
  | .local _ .vmem, ⟨3, _⟩ => ⟨S128x128, .f32⟩
  | .local _ .vmem, ⟨4, _⟩ => ⟨S128x16, .f32⟩
  | .local _ .vmem, ⟨5, _⟩ => ⟨S384x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S32x128 : Shape := ⟨2, ![32, 128]⟩
abbrev S32x16 : Shape := ⟨2, ![32, 16]⟩
abbrev S128x16 : Shape := ⟨2, ![128, 16]⟩
abbrev S384x128 : Shape := ⟨2, ![384, 128]⟩
abbrev S384 : Shape := ⟨1, ![384]⟩
abbrev S128 : Shape := ⟨1, ![128]⟩
abbrev S16x128 : Shape := ⟨2, ![16, 128]⟩
abbrev S_ : Shape := ⟨0, ![]⟩
abbrev S128x32 : Shape := ⟨2, ![128, 32]⟩
abbrev S128x32x1 : Shape := ⟨3, ![128, 32, 1]⟩
abbrev S1x32x128 : Shape := ⟨3, ![1, 32, 128]⟩
abbrev S128x32x128 : Shape := ⟨3, ![128, 32, 128]⟩
abbrev S1x128 : Shape := ⟨2, ![1, 128]⟩
abbrev S128x8x16 : Shape := ⟨3, ![128, 8, 16]⟩
abbrev S1x128x128 : Shape := ⟨3, ![1, 128, 128]⟩
abbrev S32x1x128 : Shape := ⟨3, ![32, 1, 128]⟩
abbrev S32x128x128 : Shape := ⟨3, ![32, 128, 128]⟩
abbrev S1x1x128 : Shape := ⟨3, ![1, 1, 128]⟩
abbrev S32x128x8x16 : Shape := ⟨4, ![32, 128, 8, 16]⟩
abbrev S8x32x128x128 : Shape := ⟨4, ![8, 32, 128, 128]⟩
abbrev S128x8x32x128 : Shape := ⟨4, ![128, 8, 32, 128]⟩
abbrev S128x1x32x128 : Shape := ⟨4, ![128, 1, 32, 128]⟩
abbrev S128x8x4096 : Shape := ⟨3, ![128, 8, 4096]⟩
abbrev S128x8 : Shape := ⟨2, ![128, 8]⟩
abbrev S128x8x1 : Shape := ⟨3, ![128, 8, 1]⟩
abbrev S128x8x128 : Shape := ⟨3, ![128, 8, 128]⟩
abbrev S8x16x128 : Shape := ⟨3, ![8, 16, 128]⟩

abbrev nBuf : Space → Nat
  | .hbm => 91
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S32x128, .i32⟩
  | .hbm, ⟨2, _⟩ => ⟨S32x16, .f32⟩
  | .hbm, ⟨3, _⟩ => ⟨S128x128, .f32⟩
  | .hbm, ⟨4, _⟩ => ⟨S128x16, .f32⟩
  | .hbm, ⟨5, _⟩ => ⟨S384x128, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S16x128, .f32⟩
  | .hbm, ⟨12, _⟩ => ⟨S32x128, .f32⟩
  | .hbm, ⟨13, _⟩ => ⟨S_, .i32⟩
  | .hbm, ⟨14, _⟩ => ⟨S32x128, .i32⟩
  | .hbm, ⟨15, _⟩ => ⟨S32x128, .i1⟩
  | .hbm, ⟨16, _⟩ => ⟨S128x32, .i1⟩
  | .hbm, ⟨17, _⟩ => ⟨S128x32x1, .i1⟩
  | .hbm, ⟨18, _⟩ => ⟨S1x32x128, .i1⟩
  | .hbm, ⟨19, _⟩ => ⟨S128x32x128, .i1⟩
  | .hbm, ⟨20, _⟩ => ⟨S128x32x128, .i1⟩
  | .hbm, ⟨21, _⟩ => ⟨S128x32x128, .i1⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128x128, .f32⟩
  | .hbm, ⟨29, _⟩ => ⟨S128x128, .f32⟩
  | .hbm, ⟨30, _⟩ => ⟨S1x128, .f32⟩
  | .hbm, ⟨31, _⟩ => ⟨S128x128, .f32⟩
  | .hbm, ⟨32, _⟩ => ⟨S128x128, .f32⟩
  | .hbm, ⟨33, _⟩ => ⟨S128x8x16, .f32⟩
  | .hbm, ⟨34, _⟩ => ⟨S1x128x128, .f32⟩
  | .hbm, ⟨35, _⟩ => ⟨S32x1x128, .f32⟩
  | .hbm, ⟨36, _⟩ => ⟨S32x128x128, .f32⟩
  | .hbm, ⟨37, _⟩ => ⟨S32x128x128, .f32⟩
  | .hbm, ⟨38, _⟩ => ⟨S32x128x128, .f32⟩
  | .hbm, ⟨39, _⟩ => ⟨S128x128, .f32⟩
  | .hbm, ⟨40, _⟩ => ⟨S32x128x128, .f32⟩
  | .hbm, ⟨41, _⟩ => ⟨S1x1x128, .f32⟩
  | .hbm, ⟨42, _⟩ => ⟨S32x128x128, .f32⟩
  | .hbm, ⟨43, _⟩ => ⟨S32x128x128, .f32⟩
  | .hbm, ⟨44, _⟩ => ⟨S32x128x8x16, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S128x128, .f32⟩
  | .hbm, ⟨49, _⟩ => ⟨S128x128, .f32⟩
  | .hbm, ⟨50, _⟩ => ⟨S128x8x16, .f32⟩
  | .hbm, ⟨51, _⟩ => ⟨S8x32x128x128, .f32⟩
  | .hbm, ⟨52, _⟩ => ⟨S128x8x32x128, .f32⟩
  | .hbm, ⟨53, _⟩ => ⟨S_, .f32⟩
  | .hbm, ⟨54, _⟩ => ⟨S128x8x32x128, .f32⟩
  | .hbm, ⟨55, _⟩ => ⟨S128x8x32x128, .f32⟩
  | .hbm, ⟨56, _⟩ => ⟨S128x1x32x128, .i1⟩
  | .hbm, ⟨57, _⟩ => ⟨S_, .f32⟩
  | .hbm, ⟨58, _⟩ => ⟨S_, .f32⟩
  | .hbm, ⟨59, _⟩ => ⟨S128x8x32x128, .i1⟩
  | .hbm, ⟨60, _⟩ => ⟨S128x8x32x128, .f32⟩
  | .hbm, ⟨61, _⟩ => ⟨S128x8x32x128, .f32⟩
  | .hbm, ⟨62, _⟩ => ⟨S128x8x4096, .f32⟩
  | .hbm, ⟨63, _⟩ => ⟨S_, .f32⟩
  | .hbm, ⟨64, _⟩ => ⟨S128x8, .f32⟩
  | .hbm, ⟨65, _⟩ => ⟨S_, .f32⟩
  | .hbm, ⟨66, _⟩ => ⟨S128x8, .f32⟩
  | .hbm, ⟨67, _⟩ => ⟨S128x8, .f32⟩
  | .hbm, ⟨68, _⟩ => ⟨S128x8x1, .f32⟩
  | .hbm, ⟨69, _⟩ => ⟨S128x8x4096, .f32⟩
  | .hbm, ⟨70, _⟩ => ⟨S128x8x4096, .f32⟩
  | .hbm, ⟨71, _⟩ => ⟨S128x8x4096, .f32⟩
  | .hbm, ⟨72, _⟩ => ⟨S_, .f32⟩
  | .hbm, ⟨73, _⟩ => ⟨S128x8, .f32⟩
  | .hbm, ⟨74, _⟩ => ⟨S128x8x1, .f32⟩
  | .hbm, ⟨75, _⟩ => ⟨S128x8x4096, .f32⟩
  | .hbm, ⟨76, _⟩ => ⟨S128x8x4096, .f32⟩
  | .hbm, ⟨77, _⟩ => ⟨S128x8x32x128, .f32⟩
  | .hbm, ⟨78, _⟩ => ⟨S_, .f32⟩
  | .hbm, ⟨79, _⟩ => ⟨S128x8x128, .f32⟩
  | .hbm, ⟨80, _⟩ => ⟨S8x16x128, .f32⟩
  | .hbm, ⟨81, _⟩ => ⟨S128x8x16, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S1x128, .f32⟩
  | .hbm, ⟨86, _⟩ => ⟨S128x128, .f32⟩
  | .hbm, ⟨87, _⟩ => ⟨S128x128, .f32⟩
  | .hbm, ⟨88, _⟩ => ⟨S_, .f32⟩
  | .hbm, ⟨89, _⟩ => ⟨S128x128, .f32⟩
  | .hbm, ⟨90, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v46 : Ref sig .tc := ⟨.hbm, 61, rfl⟩
abbrev main_v47 : Ref sig .tc := ⟨.hbm, 62, rfl⟩
abbrev main_cst_1 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_3 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_4 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call1_cst : Ref sig .tc := ⟨.hbm, 88, rfl⟩
abbrev main_call1_v0 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Proof.Softmax.lean ====
module

public import Idealize.ShloMosaic.PureOps.Ideal
public import Mathlib.Data.EReal.Inv
public import Mathlib.Algebra.BigOperators.Field

/-!
# A softmax over pairs is a product of two softmaxes

The score of a pair (edge `e`, node `u`) is `s1 u + s2 e + c`. The reference takes one softmax over
all pairs that the mask admits and sums the weights over the edges; the kernel exponentiates the two
parts apart, shifted by maxima of their own, and normalises at the end. Over the extended reals the two
agree as soon as the scores are real and at least one pair is admitted; the values that the weights
multiply may be any extended reals.
-/

@[expose] public section

noncomputable section

namespace Cert.Softmax

open Idealize.ShloMosaic

/-- A finite sum of reals, read as extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum (from `-∞`) of finitely many scores, none `+∞` and one not `-∞`, is a real. -/
theorem exists_max_eq {ι : Type} [Fintype ι] (f : ι → EReal) (ht : ∀ i, f i ≠ ⊤) (hb : ∃ i, f i ≠ ⊥) :
    ∃ r : ℝ, Finset.univ.fold max ⊥ f = (r : EReal) := by
  have h1 : Finset.univ.fold max ⊥ f ≠ ⊤ :=
    ne_of_lt ((Finset.fold_max_lt _).2 ⟨bot_lt_top, fun i _ => lt_top_iff_ne_top.2 (ht i)⟩)
  have h2 : Finset.univ.fold max ⊥ f ≠ ⊥ := by
    obtain ⟨i, hi⟩ := hb
    exact ne_of_gt ((bot_lt_iff_ne_bot.2 hi).trans_le
      ((Finset.le_fold_max _).2 (Or.inr ⟨i, Finset.mem_univ i, le_rfl⟩)))
  exact ⟨_, (EReal.coe_toReal h1 h2).symm⟩

/-- A nonnegative real factor goes into a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi,
      EReal.right_distrib_of_nonneg_of_ne_top (by exact_mod_cast hr) (EReal.coe_ne_top r), ih]

/-- A conditional between a real and zero is a real. -/
theorem coe_ite_zero (p : Prop) [Decidable p] (r : ℝ) :
    (if p then (r : EReal) else 0) = ((if p then r else 0 : ℝ) : EReal) := by
  split <;> simp

section Attention

variable {E U : Type} [Fintype E] [Fintype U]
variable (M : E → Prop) [DecidablePred M] (B : E → U → Prop) [∀ e, DecidablePred (B e)]

/-- The kernel's unnormalised weight of node `u`: the node part times the sum of the edge parts. -/
def weight (s1 : U → EReal) (s2 : E → EReal) (a b : EReal) (u : U) : EReal :=
  Ideal.exp (s1 u - a) * ∑ e, (if M e then Ideal.exp (s2 e - b) else 0) * (if B e u then 1 else 0)

/-- The reference's unnormalised weight of the pair `(e, u)`: a masked pair has the score `-∞`. -/
def pairWeight (s : E → U → EReal) (μ : EReal) (e : E) (u : U) : EReal :=
  Ideal.exp ((if M e ∧ B e u then s e u else ⊥) - μ)

/-- The kernel's weight on real scores, computed over the reals. -/
def weightR (s1 : U → ℝ) (s2 : E → ℝ) (a b : ℝ) (u : U) : ℝ :=
  Real.exp (s1 u - a) * ∑ e, (if M e then Real.exp (s2 e - b) else 0) * (if B e u then 1 else 0)

/-- On real scores the kernel's weight is the reading of the real one. -/
theorem weight_coe (s1 : U → ℝ) (s2 : E → ℝ) (a b : ℝ) (u : U) :
    weight M B (fun u => (s1 u : EReal)) (fun e => (s2 e : EReal)) a b u = (weightR M B s1 s2 a b u : EReal) := by
  have hone : ∀ e, (if B e u then (1 : EReal) else 0) = ((if B e u then 1 else 0 : ℝ) : EReal) := fun e => by
    split <;> simp
  simp only [weight, weightR, ← EReal.coe_sub, Ideal.exp_coe, coe_ite_zero, hone, ← EReal.coe_mul, ← coe_sum]

/-- The real weight is not negative. -/
theorem weightR_nonneg (s1 : U → ℝ) (s2 : E → ℝ) (a b : ℝ) (u : U) : 0 ≤ weightR M B s1 s2 a b u := by
  refine mul_nonneg (Real.exp_pos _).le (Finset.sum_nonneg fun e _ => mul_nonneg ?_ ?_)
  · split
    · exact (Real.exp_pos _).le
    · exact le_rfl
  · split <;> norm_num

/-- A pair's weight on real scores: zero off the mask, and on it the product of the two parts up to one factor. -/
theorem pairWeight_coe (s1 : U → ℝ) (s2 : E → ℝ) (a b c μ : ℝ) (e : E) (u : U) :
    pairWeight M B (fun e u => ((s1 u + s2 e + c : ℝ) : EReal)) μ e u
      = ((Real.exp (a + b + c - μ) * (Real.exp (s1 u - a) * ((if M e then Real.exp (s2 e - b) else 0)
          * (if B e u then 1 else 0))) : ℝ) : EReal) := by
  unfold pairWeight
  by_cases hM : M e <;> by_cases hB : B e u <;> simp only [hM, hB, and_self, and_false, false_and, if_true, if_false,
    EReal.bot_sub, Ideal.exp_bot, mul_zero, zero_mul, mul_one, EReal.coe_zero, ← EReal.coe_sub, Ideal.exp_coe]
  rw [← Real.exp_add, ← Real.exp_add]
  congr 2
  ring

/-- **The attention of one query.** Weighting by the normalised pair softmax summed over the edges is the
    kernel's ratio of two sums. -/
theorem attention (s1 : U → ℝ) (s2 : E → ℝ) (a b c μ : ℝ) (hne : ∃ e u, M e ∧ B e u) (V : U → EReal) :
    Ideal.div (∑ u, weight M B (fun u => (s1 u : EReal)) (fun e => (s2 e : EReal)) a b u * V u)
        (∑ u, weight M B (fun u => (s1 u : EReal)) (fun e => (s2 e : EReal)) a b u)
      = ∑ u, (∑ e, Ideal.div (pairWeight M B (fun e u => ((s1 u + s2 e + c : ℝ) : EReal)) μ e u)
          (∑ e', ∑ u', pairWeight M B (fun e u => ((s1 u + s2 e + c : ℝ) : EReal)) μ e' u')) * V u := by
  simp only [weight_coe, pairWeight_coe M B s1 s2 a b c μ, ← coe_sum]
  set G : U → ℝ := weightR M B s1 s2 a b with hG
  set K : ℝ := Real.exp (a + b + c - μ) with hK
  have hKpos : 0 < K := Real.exp_pos _
  have hrow : ∀ u, ∑ e, K * (Real.exp (s1 u - a) * ((if M e then Real.exp (s2 e - b) else 0)
      * (if B e u then 1 else 0))) = K * G u := fun u => by
    rw [hG, weightR, Finset.mul_sum, Finset.mul_sum]
  have hZ : ∑ e, ∑ u, K * (Real.exp (s1 u - a) * ((if M e then Real.exp (s2 e - b) else 0)
      * (if B e u then 1 else 0))) = K * ∑ u, G u := by
    rw [Finset.sum_comm, Finset.mul_sum]
    exact Finset.sum_congr rfl fun u _ => hrow u
  have hpos : 0 < ∑ u, G u := by
    obtain ⟨e, u, hM, hB⟩ := hne
    refine Finset.sum_pos' (fun u _ => weightR_nonneg M B s1 s2 a b u) ⟨u, Finset.mem_univ u, ?_⟩
    refine mul_pos (Real.exp_pos _) (Finset.sum_pos' (fun e _ => mul_nonneg ?_ ?_) ⟨e, Finset.mem_univ e, ?_⟩)
    · split
      · exact (Real.exp_pos _).le
      · exact le_rfl
    · split <;> norm_num
    · rw [if_pos hM, if_pos hB, mul_one]; exact Real.exp_pos _
  rw [hZ, Ideal.div_coe hpos.ne', sum_mul_coe _ _ (by positivity)]
  refine Finset.sum_congr rfl fun u _ => ?_
  simp only [Ideal.div_coe (mul_pos hKpos hpos).ne', ← EReal.coe_mul, ← coe_sum]
  rw [← Finset.sum_mul, hrow, mul_right_comm, ← EReal.coe_mul]
  congr 2
  field_simp

end Attention

end Cert.Softmax

end

end
-- ==== Proof.Constants.lean ====
module

public import Idealize.ShloMosaic.PureOps.Ideal

/-!
# The values of the float constants both programs spell
-/

@[expose] public section

noncomputable section

namespace Cert.Constants

open Idealize.ShloMosaic

/-- The pattern of `-∞`. -/
theorem ofBits_neg_inf : Ideal.ofBits .f32 0xFF800000#32 = (⊥ : EReal) := by
  simp [Ideal.ofBits, Ideal.ieee]

/-- The pattern of `+∞`. -/
theorem ofBits_inf : Ideal.ofBits .f32 0x7F800000#32 = (⊤ : EReal) := by
  simp [Ideal.ofBits, Ideal.ieee]

/-- The pattern of one quarter, the kernel's scale of the queries. -/
theorem ofBits_quarter : Ideal.ofBits .f32 0x3E800000#32 = ((1 / 4 : ℝ) : EReal) := by
  simp [Ideal.ofBits, Ideal.ieee, -EReal.coe_mul]; norm_num

/-- The pattern of one half, the kernel's threshold on the mask. -/
theorem ofBits_half : Ideal.ofBits .f32 0x3F000000#32 = ((1 / 2 : ℝ) : EReal) := by
  simp [Ideal.ofBits, Ideal.ieee, -EReal.coe_mul]; norm_num

/-- The pattern of four, the reference's divisor of the scores. -/
theorem ofBits_four : Ideal.ofBits .f32 0x40800000#32 = ((4 : ℝ) : EReal) := by
  simp [Ideal.ofBits, Ideal.ieee, -EReal.coe_mul]; norm_num

end Cert.Constants

end

end
-- ==== Proof.KernelHead.lean ====
module

public import proofs.«01_k».proof.Proof.Gen.KernelIdeal.Skeleton
public import proofs.«01_k».proof.Proof.Softmax
public import proofs.«01_k».proof.Proof.Constants
public import Idealize.ShloMosaic.Lib.Pointwise

/-!
# One head of the kernel

The kernel unrolls its eight heads. `headStrip h` is the body of one head with the head's number as a
variable; each unrolled body is an instance of it. `headStrip_apply` reads it at an index.
-/

@[expose] public section

set_option maxRecDepth 16384

noncomputable section

open Idealize.ShloMosaic Idealize.ShloMosaic.TcCoe Idealize.SL.Sem

namespace Cert.KernelIdeal.Value
open Cert.KernelIdeal Cert.KernelIdeal.Gen

/-- The sixteen columns of head `h` lie inside the 128 columns of the queries and the values. -/
theorem slices_cols (h : Fin 8) : S128x128.Slices ![0, h.val * 16] S128x16 := by
  revert h; decide

/-- The sixteen rows of head `h` lie inside the 128 rows of the transposed node keys. -/
theorem slices_rows (h : Fin 8) : S128x128.Slices ![h.val * 16, 0] S16x128 := by
  revert h; decide

/-- The sixteen rows of head `h` lie inside the 128 rows of the transposed edge keys. -/
theorem slices_rows_edge (h : Fin 8) : S128x32.Slices ![h.val * 16, 0] S16x32 := by
  revert h; decide

/-- The scores of head `h` between a query node and a key node. -/
def headS1 (h : Fin 8) (Q KT : FVec Ideal S128x128 .f32) : FVec Ideal S128x128 .f32 :=
  matmul dot_S128x16_S16x128_S128x128_1_0_0_1_n_n none (extractStridedSlice S128x16 ![0, h.val * 16] Q (slices_cols h))
    (extractStridedSlice S16x128 ![h.val * 16, 0] KT (slices_rows h)) (constant S128x128 .f32 0x00000000#32)

/-- The scores of head `h` between a query node and an edge. -/
def headS2 (h : Fin 8) (Q : FVec Ideal S128x128 .f32) (KE : FVec Ideal S128x32 .f32) : FVec Ideal S128x32 .f32 :=
  matmul dot_S128x16_S16x32_S128x32_1_0_0_1_n_n none (extractStridedSlice S128x16 ![0, h.val * 16] Q (slices_cols h))
    (extractStridedSlice S16x32 ![h.val * 16, 0] KE (slices_rows_edge h)) (constant S128x32 .f32 0x00000000#32)

/-- The unnormalised weights of head `h`. -/
def headG (h : Fin 8) (bf : FVec Ideal S32x128 .f32) (M : IVec S128x32 1) (Q KT : FVec Ideal S128x128 .f32)
    (KE : FVec Ideal S128x32 .f32) : FVec Ideal S128x128 .f32 :=
  k0_pay41 bf (k0_pay28 (headS1 h Q KT)) (k0_pay36 M (headS2 h Q KE) (Scalar.ofBits .f32 0xFF800000#32))

/-- What head `h` stores into its sixteen columns: the weighted sum of the values over the sum of the weights. -/
def headStrip (h : Fin 8) (bf : FVec Ideal S32x128 .f32) (M : IVec S128x32 1) (Q V KT : FVec Ideal S128x128 .f32)
    (KE : FVec Ideal S128x32 .f32) : FVec Ideal S128x16 .f32 :=
  divf (matmul dot_S128x128_S128x16_S128x16_1_0_0_1_n_n none (headG h bf M Q KT KE)
      (extractStridedSlice S128x16 ![0, h.val * 16] V (slices_cols h)) (constant S128x16 .f32 0x00000000#32))
    (broadcastTo S128x16 (matmul dot_S128x128_S128x1_S128x1_1_0_0_1_n_n none (headG h bf M Q KT KE) k0_pay10
      (constant S128x1 .f32 0x00000000#32)) broadcasts_S128x1_S128x16)

/-- A node score: the query's sixteen columns against the node key's. -/
theorem headS1_apply (h : Fin 8) (Q KT : FVec Ideal S128x128 .f32) (v u : Fin 128) :
    headS1 h Q KT (ix2 v u) = ∑ t : Fin 16, Q (ix2 v ⟨h.val * 16 + t.val, by omega⟩) * KT (ix2 ⟨h.val * 16 + t.val, by omega⟩ u) := by
  pointwise [headS1]

/-- An edge score: the query's sixteen columns against the edge key's. -/
theorem headS2_apply (h : Fin 8) (Q : FVec Ideal S128x128 .f32) (KE : FVec Ideal S128x32 .f32) (v : Fin 128) (e : Fin 32) :
    headS2 h Q KE (ix2 v e) = ∑ t : Fin 16, Q (ix2 v ⟨h.val * 16 + t.val, by omega⟩) * KE (ix2 ⟨h.val * 16 + t.val, by omega⟩ e) := by
  pointwise [headS2]

/-- An unnormalised weight: the node part times the sum of the edge parts over the edges the node lies on. -/
theorem headG_apply (h : Fin 8) (bf : FVec Ideal S32x128 .f32) (M : IVec S128x32 1) (Q KT : FVec Ideal S128x128 .f32)
    (KE : FVec Ideal S128x32 .f32) (v u : Fin 128) :
    headG h bf M Q KT KE (ix2 v u) = Ideal.exp (headS1 h Q KT (ix2 v u) - Finset.univ.fold max ⊥ fun u => headS1 h Q KT (ix2 v u))
      * ∑ e : Fin 32, Scalar.select (M (ix2 v e)) (Ideal.exp (headS2 h Q KE (ix2 v e) - Finset.univ.fold max ⊥ fun e =>
        Scalar.select (M (ix2 v e)) (headS2 h Q KE (ix2 v e)) ⊥)) 0 * bf (ix2 e u) := by
  pointwise [headG, k0_pay41, k0_pay28, k0_pay36, Cert.Constants.ofBits_neg_inf]

/-- A head's output: the weighted sum of a column of values over the sum of the weights. -/
theorem headStrip_apply (h : Fin 8) (bf : FVec Ideal S32x128 .f32) (M : IVec S128x32 1) (Q V KT : FVec Ideal S128x128 .f32)
    (KE : FVec Ideal S128x32 .f32) (v : Fin 128) (t : Fin 16) :
    headStrip h bf M Q V KT KE (ix2 v t) = Ideal.div (∑ u : Fin 128, headG h bf M Q KT KE (ix2 v u) * V (ix2 u ⟨h.val * 16 + t.val, by omega⟩))
      (∑ u : Fin 128, headG h bf M Q KT KE (ix2 v u)) := by
  pointwise [headStrip, k0_pay10]

end Cert.KernelIdeal.Value

end

end
-- ==== Proof.KernelRead.lean ====
module

public import proofs.«01_k».proof.Proof.KernelHead

/-!
# The kernel's shared operands, read at an index
-/

@[expose] public section

set_option maxRecDepth 16384

noncomputable section

open Idealize.ShloMosaic Idealize.ShloMosaic.TcCoe Idealize.SL.Sem

namespace Cert.KernelIdeal.Value
open Cert.KernelIdeal Cert.KernelIdeal.Gen

/-- The mask as a float: one where the node lies on the edge, zero elsewhere. -/
theorem bf_apply (inc : IVec S32x128 32) (e : Fin 32) (u : Fin 128) :
    k0_pay1 (F := Ideal) inc (ix2 e u) = if inc (ix2 e u) ≠ 0#32 then (1 : EReal) else 0 := by
  pointwise [k0_pay1]
  by_cases h : inc (ix2 e u) = 0#32
  · rw [if_neg (not_not.2 h), h]
    show ((((0#32).toInt : ℤ) : ℝ) : EReal) = 0
    simp
  · rw [if_pos h, show IntOp.cmpi .ne (inc (ix2 e u)) 0#32 = 1#1 from congrArg BitVec.ofBool (bne_iff_ne.2 h)]
    show ((((1#32).toInt : ℤ) : ℝ) : EReal) = 1
    simp

/-- The transposed mask, found again by comparing the float with one half. -/
theorem mask_apply (inc : IVec S32x128 32) (v : Fin 128) (e : Fin 32) :
    k0_pay3 (F := Ideal) inc (ix2 v e) = if inc (ix2 e v) ≠ 0#32 then 1#1 else 0#1 := by
  pointwise [k0_pay3, bf_apply, Cert.Constants.ofBits_half]
  by_cases h : inc (ix2 e v) = 0#32
  · rw [if_neg (not_not.2 h), if_neg (not_not.2 h), decide_eq_false (not_lt.2 (by exact_mod_cast (by norm_num : (0 : ℝ) ≤ 1 / 2)))]
    rfl
  · rw [if_pos h, if_pos h, decide_eq_true (by exact_mod_cast (by norm_num : (1 / 2 : ℝ) < 1))]
    rfl

/-- The queries, scaled by one quarter. -/
theorem q_apply (wl wq x : FVec Ideal S128x128 .f32) (v d : Fin 128) :
    k0_pay6 wl wq x (ix2 v d) = (∑ j : Fin 128, (∑ i : Fin 128, x (ix2 v i) * wl (ix2 j i)) * wq (ix2 d j)) * ((1 / 4 : ℝ) : EReal) := by
  pointwise [k0_pay6, k0_pay5, Cert.Constants.ofBits_quarter]

/-- The values. -/
theorem v_apply (wl wv x : FVec Ideal S128x128 .f32) (u d : Fin 128) :
    k0_pay7 wl wv x (ix2 u d) = ∑ j : Fin 128, (∑ i : Fin 128, x (ix2 u i) * wl (ix2 j i)) * wv (ix2 d j) := by
  pointwise [k0_pay7, k0_pay5]

/-- The node keys, transposed, with the two weight matrices multiplied first. -/
theorem kt_apply (wk x wl : FVec Ideal S128x128 .f32) (d u : Fin 128) :
    k0_pay8 wk x wl (ix2 d u) = ∑ i : Fin 128, (∑ j : Fin 128, wk (ix2 d j) * wl (ix2 j i)) * x (ix2 u i) := by
  pointwise [k0_pay8]

/-- The edge keys, transposed, with the two weight matrices multiplied first. -/
theorem ke_apply (wk : FVec Ideal S128x128 .f32) (ea : FVec Ideal S32x16 .f32) (we : FVec Ideal S128x16 .f32) (d : Fin 128) (e : Fin 32) :
    k0_pay9 wk (k0_pay2 ea) we (ix2 d e) = ∑ a : Fin 16, (∑ j : Fin 128, wk (ix2 d j) * we (ix2 j a)) * ea (ix2 e a) := by
  pointwise [k0_pay9, k0_pay2]

/-- The output: the heads' columns against the output weights, clipped at zero. -/
theorem out_apply (wo o : FVec Ideal S128x128 .f32) (v d : Fin 128) :
    k0_pay62 (k0_pay4 wo) o (ix2 v d) = max (∑ j : Fin 128, o (ix2 v j) * wo (ix2 d j)) 0 := by
  pointwise [k0_pay62, k0_pay4]

/-- The weights of a head, on the operands of the kernel. -/
theorem headG_eq_weight (h : Fin 8) (inc : IVec S32x128 32) (Q KT : FVec Ideal S128x128 .f32) (KE : FVec Ideal S128x32 .f32) (v u : Fin 128) :
    headG h (k0_pay1 (F := Ideal) inc) (k0_pay3 (F := Ideal) inc) Q KT KE (ix2 v u)
      = Cert.Softmax.weight (fun e : Fin 32 => inc (ix2 e v) ≠ 0#32) (fun (e : Fin 32) (u : Fin 128) => inc (ix2 e u) ≠ 0#32)
          (fun u => headS1 h Q KT (ix2 v u)) (fun e => headS2 h Q KE (ix2 v e))
          (Finset.univ.fold max ⊥ fun u => headS1 h Q KT (ix2 v u))
          (Finset.univ.fold max ⊥ fun e : Fin 32 => if inc (ix2 e v) ≠ 0#32 then headS2 h Q KE (ix2 v e) else ⊥) u := by
  have hsel : ∀ (e : Fin 32) (a b : EReal), Scalar.select (k0_pay3 (F := Ideal) inc (ix2 v e)) a b = if inc (ix2 e v) ≠ 0#32 then a else b := fun e a b => by
    rw [mask_apply]
    by_cases hi : inc (ix2 e v) ≠ 0#32
    · simp only [if_pos hi]; rfl
    · simp only [if_neg hi]; rfl
  rw [headG_apply]
  simp only [hsel, bf_apply]
  rfl

end Cert.KernelIdeal.Value

end

end
-- ==== Proof.KernelValue.lean ====
module

public import proofs.«01_k».proof.Proof.Gen.KernelIdeal.Value
public import proofs.«01_k».proof.Proof.KernelHead
public import Idealize.ShloMosaic.Lib.Pipeline.ValueKit
public import Idealize.ShloMosaic.Lib.Pipeline.ReadBack

/-!
# The kernel's result array

The grid has one point and every block is its whole array, so the result is what the body stores: the
scratch that the heads filled strip by strip, times the transposed output weights, clipped at zero.
-/

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- A block of 128 rows of the stacked projection weights, from row `o`. -/
def rows (o : ℕ) (ho : o + 128 ≤ 384) (W : FVec Ideal S384x128 .f32) : FVec Ideal S128x128 .f32 :=
  fun y => W (ix2 ⟨o + (y 0).val, by have : (y 0).val < 128 := (y 0).isLt; omega⟩ (y 1))

/-- What strip of sixteen columns a column lies in. -/
def headOf (y : S128x128.Idx) : Fin 8 :=
  ⟨(y 1).val / 16, by have : (y 1).val < 128 := (y 1).isLt; omega⟩

/-- The scratch after all heads: column `16 h + t` is column `t` of head `h`. -/
def scratch (x : FVec Ideal S128x128 .f32) (inc : IVec S32x128 32) (ea : FVec Ideal S32x16 .f32)
    (wl : FVec Ideal S128x128 .f32) (we : FVec Ideal S128x16 .f32) (w : FVec Ideal S384x128 .f32) : FVec Ideal S128x128 .f32 :=
  fun y => headStrip (headOf y) (k0_pay1 (F := Ideal) inc) (k0_pay3 (F := Ideal) inc) (k0_pay6 wl (rows 0 (by omega) w) x) (k0_pay7 wl (rows 256 (by omega) w) x)
    (k0_pay8 (rows 128 (by omega) w) x wl) (k0_pay9 (rows 128 (by omega) w) (k0_pay2 ea) we) (ix2 (y 0) ⟨(y 1).val % 16, by omega⟩)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The block the body reads of `x` is the whole array; likewise, below, of each other argument it reads. -/
theorem iblk_x (c : Dev nD) (t : Fin cfg0.N) : iblk m c 0 t = m ((c : Thread nD τ).loc main_arg0) := by blk_ext! [iblk, V, idx t]
/-- The block of `incidence`. -/
theorem iblk_inc (c : Dev nD) (t : Fin cfg0.N) : iblk m c 1 t = m ((c : Thread nD τ).loc main_arg1) := by blk_ext! [iblk, V, idx t]
/-- The block of `edge_attr`. -/
theorem iblk_ea (c : Dev nD) (t : Fin cfg0.N) : iblk m c 2 t = m ((c : Thread nD τ).loc main_arg2) := by blk_ext! [iblk, V, idx t]
/-- The block of `W_lin`. -/
theorem iblk_wl (c : Dev nD) (t : Fin cfg0.N) : iblk m c 3 t = m ((c : Thread nD τ).loc main_arg3) := by blk_ext! [iblk, V, idx t]
/-- The block of `W_edge`. -/
theorem iblk_we (c : Dev nD) (t : Fin cfg0.N) : iblk m c 4 t = m ((c : Thread nD τ).loc main_arg4) := by blk_ext! [iblk, V, idx t]
/-- The block of `in_proj_w`. -/
theorem iblk_w (c : Dev nD) (t : Fin cfg0.N) : iblk m c 5 t = m ((c : Thread nD τ).loc main_arg5) := by blk_ext! [iblk, V, idx t]
/-- The block of `out_proj_w`. -/
theorem iblk_wo (c : Dev nD) (t : Fin cfg0.N) : iblk m c 6 t = m ((c : Thread nD τ).loc main_arg7) := by blk_ext! [iblk, V, idx t]

/-- A load of 128 rows of the stacked projection weights is those rows. -/
theorem ld_rows (o : ℕ) (ho : o + 128 ≤ 384) (W : S384x128.Idx → Elt Ideal .f32)
    (inb : ∀ a, (![o, 0] : Fin S384x128.rank → ℕ) a + (![128, 128] : Fin S384x128.rank → ℕ) a ≤ S384x128.size a) :
    (View.ld W (Rect.unit (s := S384x128) ![o, 0] ![128, 128] inb) : FVec Ideal S128x128 .f32)
      = rows o ho W := by
  funext y
  refine View.ld_unit_apply_of W ![o, 0] ![128, 128] inb y _ fun a => ?_
  fin_cases a
  · rfl
  · exact (Nat.zero_add _).symm

/-- The scratch at a column of head `h` is that head's strip. -/
theorem scratch_strip (h : Fin 8) (x : FVec Ideal S128x128 .f32) (inc : IVec S32x128 32) (ea : FVec Ideal S32x16 .f32)
    (wl : FVec Ideal S128x128 .f32) (we : FVec Ideal S128x16 .f32) (w : FVec Ideal S384x128 .f32) (y : S128x128.Idx) (z : S128x16.Idx)
    (h0 : (y 0).val = (z 0).val) (h1 : (y 1).val = h.val * 16 + (z 1).val) :
    headStrip h (k0_pay1 (F := Ideal) inc) (k0_pay3 (F := Ideal) inc) (k0_pay6 wl (rows 0 (by omega) w) x) (k0_pay7 wl (rows 256 (by omega) w) x)
      (k0_pay8 (rows 128 (by omega) w) x wl) (k0_pay9 (rows 128 (by omega) w) (k0_pay2 ea) we) z
      = scratch x inc ea wl we w y := by
  have hz : (z 1).val < 16 := (z 1).isLt
  have e1 : headOf y = h := Fin.ext (by show (y 1).val / 16 = h.val; omega)
  have e2 : (ix2 (y 0) ⟨(y 1).val % 16, by omega⟩ : S128x16.Idx) = z := by
    refine Eq.trans ?_ (eq_ix2 z).symm
    exact (ix2_inj ..).2 ⟨Fin.ext h0, Fin.ext (by show (y 1).val % 16 = (z 1).val; omega)⟩
  unfold scratch
  rw [e1, e2]

/-- The array the kernel leaves: the output projection of the scratch, clipped at zero, of the arguments. -/
theorem final (c : Dev nD) : (dats m 0 c).arrAt 7 (cfgs 0).N
    = k0_pay62 (k0_pay4 (m ((c : Thread nD τ).loc main_arg7)))
      (scratch (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_after_last 7 t0_0 (by decide +kernel) _ fun j => ?_
  blk_simp
  rw [after0_7]
  unfold outsAt0
  frame_out
  simp only [read_unread_whole, iblk_x, iblk_inc, iblk_ea, iblk_wl, iblk_we, iblk_w, iblk_wo]
  refine congrFun (congrArg (k0_pay62 _) ?_) j
  rw [View.readCov_eq_canon']
  funext y
  generalize m ((c : Thread nD τ).loc main_arg0) = x
  generalize m ((c : Thread nD τ).loc main_arg1) = inc
  generalize m ((c : Thread nD τ).loc main_arg2) = ea
  generalize m ((c : Thread nD τ).loc main_arg3) = wl
  generalize m ((c : Thread nD τ).loc main_arg4) = we
  generalize m ((c : Thread nD τ).loc main_arg5) = w
  have hy : ∀ B, (Rect.unit ![0, 0] ![128, 128] B : Rect S128x128).toLoadRect.idx y = y := fun B => by
    funext a
    refine Fin.ext ((Rect.idx_unit_val ![0, 0] ![128, 128] B y a).trans ?_)
    fin_cases a <;> exact Nat.zero_add _
  rw [hy]
  canon_tiles z h
  all_goals simp only [ld_rows 0 (by omega), ld_rows 128 (by omega), ld_rows 256 (by omega), k0_pay53, k0_pay54, k0_pay55, k0_pay56, k0_pay58,
    k0_pay59, k0_pay60, k0_pay61, shapeCast_self]
  · exact scratch_strip 7 x inc ea wl we w y z h0 h1
  · exact scratch_strip 6 x inc ea wl we w y z h0 h1
  · exact scratch_strip 5 x inc ea wl we w y z h0 h1
  · exact scratch_strip 4 x inc ea wl we w y z h0 h1
  · exact scratch_strip 3 x inc ea wl we w y z h0 h1
  · exact scratch_strip 2 x inc ea wl we w y z h0 h1
  · exact scratch_strip 1 x inc ea wl we w y z h0 h1
  · exact scratch_strip 0 x inc ea wl we w y z h0 (h1.trans (Nat.zero_add _).symm)

end Cert.KernelIdeal.Value

end

end
-- ==== Proof.RefRead.lean ====
module

public import proofs.«01_k».proof.Proof.Gen.ReferenceIdeal.Read
public import proofs.«01_k».proof.Proof.Softmax
public import proofs.«01_k».proof.Proof.Constants
public import Idealize.ShloMosaic.Lib.Pointwise

/-!
# The reference, read at an index
-/

@[expose] public section

set_option maxRecDepth 16384

noncomputable section

open Idealize.ShloMosaic Idealize.ShloMosaic.TcCoe Idealize.SL.Sem

namespace Cert.ReferenceIdeal.Read
open Cert.ReferenceIdeal Cert.ReferenceIdeal.Gen

variable (x : FVec Ideal S128x128 .f32) (inc : IVec S32x128 32) (ea : FVec Ideal S32x16 .f32) (wl : FVec Ideal S128x128 .f32)
  (we : FVec Ideal S128x16 .f32) (w : FVec Ideal S384x128 .f32) (b : FVec Ideal S384 .f32) (wo : FVec Ideal S128x128 .f32)
  (bo : FVec Ideal S128 .f32)

/-- The queries. -/
theorem q_apply (v : Fin 128) (h : Fin 8) (t : Fin 16) :
    (val_main_v23 (F := Ideal) x wl w b (ix3 v h t) : EReal)
      = (∑ j : Fin 128, (∑ i : Fin 128, x (ix2 v i) * wl (ix2 j i)) * w (ix2 ⟨0 + (h.val * 16 + t.val), by omega⟩ j))
        + b (ix1 ⟨0 + (h.val * 16 + t.val), by omega⟩) := by
  pointwise [val_main_v23, val_main_v22, val_main_v19, val_main_v1, val_main_v0, val_main_v18, val_main_v12, val_main_v21, val_main_v20, val_main_v15]

/-- The values. -/
theorem v_apply (u : Fin 128) (h : Fin 8) (t : Fin 16) :
    (val_main_v40 (F := Ideal) x wl w b (ix3 u h t) : EReal)
      = (∑ j : Fin 128, (∑ i : Fin 128, x (ix2 u i) * wl (ix2 j i)) * w (ix2 ⟨256 + (h.val * 16 + t.val), by omega⟩ j))
        + b (ix1 ⟨256 + (h.val * 16 + t.val), by omega⟩) := by
  pointwise [val_main_v40, val_main_v39, val_main_v36, val_main_v1, val_main_v0, val_main_v35, val_main_v14, val_main_v38, val_main_v37, val_main_v17]

/-- The keys of a pair: the projected sum of the node's and the edge's features. -/
theorem k_apply (e : Fin 32) (u : Fin 128) (h : Fin 8) (t : Fin 16) :
    (val_main_v34 (F := Ideal) x ea wl we w b (ix4 e u h t) : EReal)
      = (∑ j : Fin 128, ((∑ i : Fin 128, x (ix2 u i) * wl (ix2 j i)) + ∑ a : Fin 16, ea (ix2 e a) * we (ix2 j a))
          * w (ix2 ⟨128 + (h.val * 16 + t.val), by omega⟩ j))
        + b (ix1 ⟨128 + (h.val * 16 + t.val), by omega⟩) := by
  pointwise [val_main_v34, val_main_v33, val_main_v30, val_main_v28, val_main_v26, val_main_v24, val_main_v1, val_main_v0, val_main_v27,
    val_main_v25, val_main_v3, val_main_v2, val_main_v29, val_main_v13, val_main_v32, val_main_v31, val_main_v16]

/-- The score of a pair: the dot product of key and query over the head's sixteen columns, divided by four. -/
theorem score_apply (v : Fin 128) (h : Fin 8) (e : Fin 32) (u : Fin 128) :
    (val_main_v44 (F := Ideal) x ea wl we w b (ix4 v h e u) : EReal)
      = Ideal.div (∑ t : Fin 16, (val_main_v34 (F := Ideal) x ea wl we w b (ix4 e u h t) : EReal)
          * (val_main_v23 (F := Ideal) x wl w b (ix3 v h t) : EReal)) ((4 : ℝ) : EReal) := by
  pointwise [val_main_v44, val_main_v42, val_main_v41, val_main_v43, val_main_cst, Cert.Constants.ofBits_four]

/-- The masked score: `-∞` unless both nodes lie on the edge. -/
theorem masked_apply (v : Fin 128) (h : Fin 8) (e : Fin 32) (u : Fin 128) :
    (val_main_v46 (F := Ideal) x inc ea wl we w b (ix4 v h e u) : EReal)
      = if inc (ix2 e v) ≠ 0#32 ∧ inc (ix2 e u) ≠ 0#32 then (val_main_v44 (F := Ideal) x ea wl we w b (ix4 v h e u) : EReal) else ⊥ := by
  pointwise [val_main_v46, val_main_call0_v1, val_main_v45, val_main_v11, val_main_v9, val_main_v7, val_main_v6, val_main_v5, val_main_v4, val_main_c,
    val_main_v10, val_main_v8, val_main_call0_v2, val_main_call0_v0, val_main_cst_0, Cert.Constants.ofBits_neg_inf]
  rw [show (id (constant (F := Ideal) S_ .f32 0xFF800000#32) ix0 : EReal) = ⊥ from Cert.Constants.ofBits_neg_inf]
  have hne : ∀ a : BitVec 32, IntOp.cmpi .ne a 0#32 = if a ≠ 0#32 then 1#1 else 0#1 := fun a => by
    by_cases ha : a = 0#32
    · rw [if_neg (not_not.2 ha), ha]; rfl
    · rw [if_pos ha, show IntOp.cmpi .ne a 0#32 = 1#1 from congrArg BitVec.ofBool (bne_iff_ne.2 ha)]
  rw [hne, hne]
  by_cases h1 : inc (ix2 e v) ≠ 0#32 <;> by_cases h2 : inc (ix2 e u) ≠ 0#32
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

/-- The maximum the softmax subtracts, over all pairs. -/
theorem pairMax_apply (v : Fin 128) (h : Fin 8) :
    (val_main_v50 (F := Ideal) x inc ea wl we w b (ix2 v h) : EReal)
      = max ⊥ (Finset.univ.fold max ⊥ fun k : Fin 4096 =>
          (val_main_v46 (F := Ideal) x inc ea wl we w b (ix4 v h ⟨k.val / 128, by omega⟩ ⟨k.val % 128, by omega⟩) : EReal)) := by
  have h47 : ∀ k : Fin 4096, (val_main_v47 (F := Ideal) x inc ea wl we w b (ix3 v h k) : EReal)
      = val_main_v46 (F := Ideal) x inc ea wl we w b (ix4 v h ⟨k.val / 128, by omega⟩ ⟨k.val % 128, by omega⟩) := fun k => by
    pointwise [val_main_v47]
  have h48 : (val_main_v48 (F := Ideal) x inc ea wl we w b (ix2 v h) : EReal)
      = Finset.univ.fold max (val_main_cst_1 (F := Ideal) (Shape.Idx.first h_S_)) fun k : Fin 4096 =>
          (val_main_v47 (F := Ideal) x inc ea wl we w b (ix3 v h k) : EReal) := by
    pointwise [val_main_v48]
  rw [← funext h47, val_main_v50_apply, val_main_v49_apply, val_main_cst_2_apply, h48, val_main_cst_1_apply]
  generalize (fun k : Fin 4096 => (val_main_v47 (F := Ideal) x inc ea wl we w b (ix3 v h k) : EReal)) = f
  rw [show (FloatOps.ofBits (F := Ideal) .f32 0xFF800000#32 : EReal) = ⊥ from Cert.Constants.ofBits_neg_inf]
  rfl

/-- The unnormalised weight of a pair. -/
theorem pairExp_apply (v : Fin 128) (h : Fin 8) (k : Fin 4096) :
    (val_main_v54 (F := Ideal) x inc ea wl we w b (ix3 v h k) : EReal)
      = Cert.Softmax.pairWeight (fun e : Fin 32 => inc (ix2 e v) ≠ 0#32) (fun (e : Fin 32) (u : Fin 128) => inc (ix2 e u) ≠ 0#32)
          (fun e u => (val_main_v44 (F := Ideal) x ea wl we w b (ix4 v h e u) : EReal))
          (val_main_v50 (F := Ideal) x inc ea wl we w b (ix2 v h) : EReal) ⟨k.val / 128, by omega⟩ ⟨k.val % 128, by omega⟩ := by
  unfold Cert.Softmax.pairWeight
  rw [← masked_apply]
  pointwise [val_main_v54, val_main_v53, val_main_v47, val_main_v52, val_main_v51]

/-- The sum of the unnormalised weights, over all pairs. -/
theorem pairSum_apply (v : Fin 128) (h : Fin 8) :
    (val_main_v55 (F := Ideal) x inc ea wl we w b (ix2 v h) : EReal)
      = ∑ e : Fin 32, ∑ u : Fin 128, Cert.Softmax.pairWeight (fun e : Fin 32 => inc (ix2 e v) ≠ 0#32)
          (fun (e : Fin 32) (u : Fin 128) => inc (ix2 e u) ≠ 0#32)
          (fun e u => (val_main_v44 (F := Ideal) x ea wl we w b (ix4 v h e u) : EReal))
          (val_main_v50 (F := Ideal) x inc ea wl we w b (ix2 v h) : EReal) e u := by
  have h1 : (val_main_v55 (F := Ideal) x inc ea wl we w b (ix2 v h) : EReal)
      = ∑ k : Fin 4096, (val_main_v54 (F := Ideal) x inc ea wl we w b (ix3 v h k) : EReal) := by
    pointwise [val_main_v55, val_main_cst_3]
  rw [h1, Finset.sum_congr rfl fun k _ => pairExp_apply x inc ea wl we w b v h k, Fin.sum_univ_tiles 32 128 rfl]
  refine Finset.sum_congr rfl fun e _ => Finset.sum_congr rfl fun u _ => ?_
  congr 1 <;> exact Fin.ext (by simp only; omega)

/-- A node's normalised weight, summed over the edges. -/
theorem attn_apply (v : Fin 128) (h : Fin 8) (u : Fin 128) :
    (val_main_v60 (F := Ideal) x inc ea wl we w b (ix3 v h u) : EReal)
      = ∑ e : Fin 32, Ideal.div (val_main_v54 (F := Ideal) x inc ea wl we w b (ix3 v h ⟨e.val * 128 + u.val, by omega⟩) : EReal)
          (val_main_v55 (F := Ideal) x inc ea wl we w b (ix2 v h) : EReal) := by
  pointwise [val_main_v60, val_main_v59, val_main_v58, val_main_v57, val_main_v56, val_main_cst_4]

/-- The heads' outputs side by side: the values weighted. -/
theorem ctx_apply (v d : Fin 128) :
    (val_main_v63 (F := Ideal) x inc ea wl we w b (ix2 v d) : EReal)
      = ∑ u : Fin 128, (val_main_v40 (F := Ideal) x wl w b (ix3 u ⟨d.val / 16, by omega⟩ ⟨d.val % 16, by omega⟩) : EReal)
          * (val_main_v60 (F := Ideal) x inc ea wl we w b (ix3 v ⟨d.val / 16, by omega⟩ u) : EReal) := by
  pointwise [val_main_v63, val_main_v62, val_main_v61]

/-- The result: the output projection with its bias, clipped at zero. -/
theorem out_apply (v d : Fin 128) :
    (val_main_v69 (F := Ideal) x inc ea wl we w b wo bo (ix2 v d) : EReal)
      = max ((∑ j : Fin 128, (val_main_v63 (F := Ideal) x inc ea wl we w b (ix2 v j) : EReal) * wo (ix2 d j)) + bo (ix1 d)) 0 := by
  pointwise [val_main_v69, val_main_v68, val_main_v65, val_main_v64, val_main_v67, val_main_v66, val_main_call1_v0, val_main_call1_cst]

end Cert.ReferenceIdeal.Read

end

end
-- ==== Proof.Heads.lean ====
module

public import proofs.«01_k».proof.Proof.KernelRead
public import proofs.«01_k».proof.Proof.KernelValue
public import proofs.«01_k».proof.Proof.RefRead

/-!
# One head, in the kernel and in the reference

On real inputs the scores of both programs are readings of real numbers. The reference's score of a pair
(edge `e`, node `u`) is the kernel's node score plus its edge score plus a number the pair does not enter
(the query against the key bias), so `Cert.Softmax.attention` joins the two heads.
-/

@[expose] public section

set_option maxRecDepth 16384

noncomputable section

open Idealize.ShloMosaic Idealize.ShloMosaic.TcCoe Idealize.SL.Sem

namespace Cert.Heads
open Cert.KernelIdeal Cert.KernelIdeal.Gen Cert.KernelIdeal.Value Cert.ReferenceIdeal.Read

/-! ## The scores over the reals -/

/-- Projecting a projected row is weighting the row by the product of the two matrices. -/
theorem sum_swap {I J : Type} [Fintype I] [Fintype J] (X : I → ℝ) (A : J → I → ℝ) (K : J → ℝ) :
    ∑ j, (∑ i, X i * A j i) * K j = ∑ i, (∑ j, K j * A j i) * X i := by
  simp only [Finset.sum_mul]
  rw [Finset.sum_comm]
  exact Finset.sum_congr rfl fun i _ => Finset.sum_congr rfl fun j _ => by ring

/-- A query's score against a row: the query, scaled, against the row weighted by the product of two matrices. -/
def part {T I J : Type} [Fintype T] [Fintype I] [Fintype J] (q : T → ℝ) (K : T → J → ℝ) (A : J → I → ℝ) (X : I → ℝ) : ℝ :=
  ∑ t, (q t * (1 / 4)) * ∑ i, (∑ j, K t j * A j i) * X i

/-- The same score, the row projected by one matrix after the other. -/
theorem part_eq {T I J : Type} [Fintype T] [Fintype I] [Fintype J] (q : T → ℝ) (K : T → J → ℝ) (A : J → I → ℝ) (X : I → ℝ) :
    part q K A X = ∑ t, (q t * (1 / 4)) * ∑ j, (∑ i, X i * A j i) * K t j :=
  Finset.sum_congr rfl fun t _ => by rw [sum_swap]

/-- The score of a pair splits into the node's part, the edge's part and the bias's part. -/
theorem score_split {T I J L : Type} [Fintype T] [Fintype I] [Fintype J] [Fintype L] (q : T → ℝ) (K : T → J → ℝ) (β : T → ℝ)
    (A : J → I → ℝ) (X : I → ℝ) (C : J → L → ℝ) (Y : L → ℝ) :
    (∑ t, ((∑ j, ((∑ i, X i * A j i) + ∑ a, Y a * C j a) * K t j) + β t) * q t) * (1 / 4)
      = part q K A X + part q K C Y + ∑ t, β t * q t * (1 / 4) := by
  rw [part_eq, part_eq, Finset.sum_mul, ← Finset.sum_add_distrib, ← Finset.sum_add_distrib]
  refine Finset.sum_congr rfl fun t _ => ?_
  simp only [add_mul, Finset.sum_add_distrib]
  ring

/-! ## The scores of the two programs -/

variable (x : FVec Ideal S128x128 .f32) (inc : IVec S32x128 32) (ea : FVec Ideal S32x16 .f32) (wl : FVec Ideal S128x128 .f32)
  (we : FVec Ideal S128x16 .f32) (w : FVec Ideal S384x128 .f32) (b : FVec Ideal S384 .f32)
variable {X WL : Fin 128 → Fin 128 → ℝ} {EA : Fin 32 → Fin 16 → ℝ} {WE : Fin 128 → Fin 16 → ℝ} {W : Fin 256 → Fin 128 → ℝ}
  {BK : Fin 128 → ℝ}

/-- Column `t` of head `h` among the 128 columns. -/
def col (h : Fin 8) (t : Fin 16) : Fin 128 := ⟨h.val * 16 + t.val, by omega⟩

/-- A query over the reals, at the columns of a head. -/
def query (X WL : Fin 128 → Fin 128 → ℝ) (W : Fin 256 → Fin 128 → ℝ) (v : Fin 128) (h : Fin 8) (t : Fin 16) : ℝ :=
  ∑ j : Fin 128, (∑ i : Fin 128, X v i * WL j i) * W ⟨(col h t).val, by omega⟩ j

/-- The key weights over the reals, at the columns of a head. -/
def keyRow (W : Fin 256 → Fin 128 → ℝ) (h : Fin 8) (t : Fin 16) (j : Fin 128) : ℝ := W ⟨128 + (col h t).val, by omega⟩ j

/-- The kernel's scaled queries are real. -/
theorem kernel_query (hx : ∀ i j, x (ix2 i j) = ((X i j : ℝ) : EReal)) (hwl : ∀ i j, wl (ix2 i j) = ((WL i j : ℝ) : EReal))
    (hw : ∀ (d : Fin 256) j, w (ix2 ⟨d.val, by omega⟩ j) = ((W d j : ℝ) : EReal)) (v : Fin 128) (h : Fin 8) (t : Fin 16) :
    (k0_pay6 (F := Ideal) wl (rows 0 (by omega) w) x (ix2 v (col h t)) : EReal) = ((query X WL W v h t * (1 / 4) : ℝ) : EReal) := by
  have hr : ∀ j, rows 0 (by omega) w (ix2 (col h t) j) = ((W ⟨(col h t).val, by omega⟩ j : ℝ) : EReal) := fun j => by
    rw [← hw]
    exact congrArg w ((ix2_inj ..).2 ⟨Fin.ext (Nat.zero_add _), rfl⟩)
  rw [Cert.KernelIdeal.Value.q_apply]
  simp only [hx, hwl, hr, ← EReal.coe_mul, ← Cert.Softmax.coe_sum]
  rfl

/-- The kernel's node scores are real. -/
theorem kernel_node (hx : ∀ i j, x (ix2 i j) = ((X i j : ℝ) : EReal)) (hwl : ∀ i j, wl (ix2 i j) = ((WL i j : ℝ) : EReal))
    (hw : ∀ (d : Fin 256) j, w (ix2 ⟨d.val, by omega⟩ j) = ((W d j : ℝ) : EReal)) (v : Fin 128) (h : Fin 8) (u : Fin 128) :
    headS1 h (k0_pay6 wl (rows 0 (by omega) w) x) (k0_pay8 (rows 128 (by omega) w) x wl) (ix2 v u)
      = ((part (query X WL W v h) (keyRow W h) WL (X u) : ℝ) : EReal) := by
  have hr : ∀ t j, rows 128 (by omega) w (ix2 (col h t) j) = ((keyRow W h t j : ℝ) : EReal) := fun t j => by
    unfold keyRow
    rw [← hw]
    rfl
  rw [headS1_apply]
  unfold part
  rw [Cert.Softmax.coe_sum]
  refine Finset.sum_congr rfl fun t _ => ?_
  rw [EReal.coe_mul, ← kernel_query x wl w hx hwl hw v h t]
  refine congrArg ((k0_pay6 (F := Ideal) wl (rows 0 (by omega) w) x (ix2 v (col h t)) : EReal) * ·) ?_
  refine (kt_apply _ _ _ (col h t) u).trans ?_
  simp only [hx, hwl, hr, ← EReal.coe_mul, ← Cert.Softmax.coe_sum]

/-- The kernel's edge scores are real. -/
theorem kernel_edge (hx : ∀ i j, x (ix2 i j) = ((X i j : ℝ) : EReal)) (hwl : ∀ i j, wl (ix2 i j) = ((WL i j : ℝ) : EReal))
    (hea : ∀ i j, ea (ix2 i j) = ((EA i j : ℝ) : EReal)) (hwe : ∀ i j, we (ix2 i j) = ((WE i j : ℝ) : EReal))
    (hw : ∀ (d : Fin 256) j, w (ix2 ⟨d.val, by omega⟩ j) = ((W d j : ℝ) : EReal)) (v : Fin 128) (h : Fin 8) (e : Fin 32) :
    headS2 h (k0_pay6 wl (rows 0 (by omega) w) x) (k0_pay9 (rows 128 (by omega) w) (k0_pay2 ea) we) (ix2 v e)
      = ((part (query X WL W v h) (keyRow W h) WE (EA e) : ℝ) : EReal) := by
  have hr : ∀ t j, rows 128 (by omega) w (ix2 (col h t) j) = ((keyRow W h t j : ℝ) : EReal) := fun t j => by
    unfold keyRow
    rw [← hw]
    rfl
  rw [headS2_apply]
  unfold part
  rw [Cert.Softmax.coe_sum]
  refine Finset.sum_congr rfl fun t _ => ?_
  rw [EReal.coe_mul, ← kernel_query x wl w hx hwl hw v h t]
  refine congrArg ((k0_pay6 (F := Ideal) wl (rows 0 (by omega) w) x (ix2 v (col h t)) : EReal) * ·) ?_
  refine (ke_apply _ _ _ (col h t) e).trans ?_
  simp only [hea, hwe, hr, ← EReal.coe_mul, ← Cert.Softmax.coe_sum]

/-- The reference's score of a pair: the kernel's node part and edge part, and the bias's part. -/
theorem reference_score (hx : ∀ i j, x (ix2 i j) = ((X i j : ℝ) : EReal)) (hwl : ∀ i j, wl (ix2 i j) = ((WL i j : ℝ) : EReal))
    (hea : ∀ i j, ea (ix2 i j) = ((EA i j : ℝ) : EReal)) (hwe : ∀ i j, we (ix2 i j) = ((WE i j : ℝ) : EReal))
    (hw : ∀ (d : Fin 256) j, w (ix2 ⟨d.val, by omega⟩ j) = ((W d j : ℝ) : EReal))
    (hbq : ∀ i : Fin 128, b (ix1 ⟨i.val, by omega⟩) = (0 : EReal)) (hbk : ∀ i : Fin 128, b (ix1 ⟨128 + i.val, by omega⟩) = ((BK i : ℝ) : EReal))
    (v : Fin 128) (h : Fin 8) (e : Fin 32) (u : Fin 128) :
    (val_main_v44 (F := Ideal) x ea wl we w b (ix4 v h e u) : EReal)
      = ((part (query X WL W v h) (keyRow W h) WL (X u) + part (query X WL W v h) (keyRow W h) WE (EA e)
          + ∑ t, BK (col h t) * query X WL W v h t * (1 / 4) : ℝ) : EReal) := by
  have hq : ∀ t, (val_main_v23 (F := Ideal) x wl w b (ix3 v h t) : EReal) = ((query X WL W v h t : ℝ) : EReal) := fun t => by
    have hb : b (ix1 ⟨0 + (h.val * 16 + t.val), by omega⟩) = (0 : EReal) := by
      rw [← hbq (col h t)]
      exact congrArg b (congrArg ix1 (Fin.ext (Nat.zero_add _)))
    have hr : ∀ j, w (ix2 ⟨0 + (h.val * 16 + t.val), by omega⟩ j) = ((W ⟨(col h t).val, by omega⟩ j : ℝ) : EReal) := fun j => by
      rw [← hw]
      exact congrArg w ((ix2_inj ..).2 ⟨Fin.ext (Nat.zero_add _), rfl⟩)
    rw [Cert.ReferenceIdeal.Read.q_apply, hb, add_zero]
    simp only [hx, hwl, hr, ← EReal.coe_mul, ← Cert.Softmax.coe_sum]
    rfl
  have hk : ∀ t, (val_main_v34 (F := Ideal) x ea wl we w b (ix4 e u h t) : EReal)
      = (((∑ j, ((∑ i, X u i * WL j i) + ∑ a, EA e a * WE j a) * keyRow W h t j) + BK (col h t) : ℝ) : EReal) := fun t => by
    have hb : b (ix1 ⟨128 + (h.val * 16 + t.val), by omega⟩) = ((BK (col h t) : ℝ) : EReal) := hbk (col h t)
    have hr : ∀ j, w (ix2 ⟨128 + (h.val * 16 + t.val), by omega⟩ j) = ((keyRow W h t j : ℝ) : EReal) := fun j => by
      unfold keyRow
      rw [← hw]
      rfl
    rw [k_apply, hb]
    simp only [hx, hwl, hea, hwe, hr, ← EReal.coe_mul, ← EReal.coe_add, ← Cert.Softmax.coe_sum]
  rw [score_apply, Ideal.div_coe (by norm_num), ← score_split]
  simp only [hq, hk, ← EReal.coe_mul, ← Cert.Softmax.coe_sum]

/-! ## One head -/

/-- What the kernel stores at column `t` of head `h` is the reference's weighted sum of the values. -/
theorem head_eq (hx : ∀ i j, x (ix2 i j) = ((X i j : ℝ) : EReal)) (hwl : ∀ i j, wl (ix2 i j) = ((WL i j : ℝ) : EReal))
    (hea : ∀ i j, ea (ix2 i j) = ((EA i j : ℝ) : EReal)) (hwe : ∀ i j, we (ix2 i j) = ((WE i j : ℝ) : EReal))
    (hw : ∀ (d : Fin 256) j, w (ix2 ⟨d.val, by omega⟩ j) = ((W d j : ℝ) : EReal))
    (hbq : ∀ i : Fin 128, b (ix1 ⟨i.val, by omega⟩) = (0 : EReal)) (hbk : ∀ i : Fin 128, b (ix1 ⟨128 + i.val, by omega⟩) = ((BK i : ℝ) : EReal))
    (hbv : ∀ i : Fin 128, b (ix1 ⟨256 + i.val, by omega⟩) = (0 : EReal)) (hcov : ∀ v : Fin 128, ∃ e : Fin 32, inc (ix2 e v) ≠ 0#32)
    (v : Fin 128) (h : Fin 8) (t : Fin 16) :
    headStrip h (k0_pay1 (F := Ideal) inc) (k0_pay3 (F := Ideal) inc) (k0_pay6 wl (rows 0 (by omega) w) x) (k0_pay7 wl (rows 256 (by omega) w) x)
      (k0_pay8 (rows 128 (by omega) w) x wl) (k0_pay9 (rows 128 (by omega) w) (k0_pay2 ea) we) (ix2 v t)
      = ∑ u : Fin 128, (val_main_v40 (F := Ideal) x wl w b (ix3 u h t) : EReal)
          * (val_main_v60 (F := Ideal) x inc ea wl we w b (ix3 v h u) : EReal) := by
  have hV : ∀ u, (val_main_v40 (F := Ideal) x wl w b (ix3 u h t) : EReal)
      = (k0_pay7 (F := Ideal) wl (rows 256 (by omega) w) x (ix2 u (col h t)) : EReal) := fun u => by
    have hb : b (ix1 ⟨256 + (h.val * 16 + t.val), by omega⟩) = (0 : EReal) := hbv (col h t)
    rw [Cert.ReferenceIdeal.Read.v_apply, hb, add_zero]
    exact (Cert.KernelIdeal.Value.v_apply wl (rows 256 (by omega) w) x u (col h t)).symm
  obtain ⟨e₀, he₀⟩ := hcov v
  obtain ⟨a, ha⟩ := Cert.Softmax.exists_max_eq
    (fun u => ((part (query X WL W v h) (keyRow W h) WL (X u) : ℝ) : EReal)) (fun u => EReal.coe_ne_top _) ⟨v, EReal.coe_ne_bot _⟩
  obtain ⟨c, hc⟩ := Cert.Softmax.exists_max_eq
    (fun e : Fin 32 => if inc (ix2 e v) ≠ 0#32 then ((part (query X WL W v h) (keyRow W h) WE (EA e) : ℝ) : EReal) else ⊥)
    (fun e => by split <;> simp) ⟨e₀, by rw [if_pos he₀]; exact EReal.coe_ne_bot _⟩
  obtain ⟨μ, hμ⟩ : ∃ μ : ℝ, (val_main_v50 (F := Ideal) x inc ea wl we w b (ix2 v h) : EReal) = (μ : EReal) := by
    simp only [pairMax_apply, masked_apply, reference_score x ea wl we w b hx hwl hea hwe hw hbq hbk]
    rw [max_eq_right bot_le]
    refine Cert.Softmax.exists_max_eq _ (fun k => by split; exacts [EReal.coe_ne_top _, bot_ne_top]) ⟨⟨e₀.val * 128 + v.val, by omega⟩, ?_⟩
    have h1 : (⟨(e₀.val * 128 + v.val) / 128, by omega⟩ : Fin 32) = e₀ := Fin.ext (by simp only; omega)
    have h2 : (⟨(e₀.val * 128 + v.val) % 128, by omega⟩ : Fin 128) = v := Fin.ext (by simp only; omega)
    simp only [h1, h2]
    rw [if_pos ⟨he₀, he₀⟩]
    exact EReal.coe_ne_bot _
  have hpair : ∀ (e : Fin 32) (u : Fin 128), (val_main_v54 (F := Ideal) x inc ea wl we w b (ix3 v h ⟨e.val * 128 + u.val, by omega⟩) : EReal)
      = Cert.Softmax.pairWeight (fun e : Fin 32 => inc (ix2 e v) ≠ 0#32) (fun (e : Fin 32) (u : Fin 128) => inc (ix2 e u) ≠ 0#32)
          (fun e u => (val_main_v44 (F := Ideal) x ea wl we w b (ix4 v h e u) : EReal))
          (val_main_v50 (F := Ideal) x inc ea wl we w b (ix2 v h) : EReal) e u := fun e u => by
    have h1 : (⟨(e.val * 128 + u.val) / 128, by omega⟩ : Fin 32) = e := Fin.ext (by simp only; omega)
    have h2 : (⟨(e.val * 128 + u.val) % 128, by omega⟩ : Fin 128) = u := Fin.ext (by simp only; omega)
    rw [pairExp_apply, h1, h2]
  simp only [headStrip_apply, headG_eq_weight, attn_apply, hpair, pairSum_apply, hV, hμ, kernel_node x wl w hx hwl hw,
    kernel_edge x ea wl we w hx hwl hea hwe hw, reference_score x ea wl we w b hx hwl hea hwe hw hbq hbk, ha, hc]
  refine (Cert.Softmax.attention (fun e : Fin 32 => inc (ix2 e v) ≠ 0#32) (fun (e : Fin 32) (u : Fin 128) => inc (ix2 e u) ≠ 0#32)
    (fun u => part (query X WL W v h) (keyRow W h) WL (X u)) (fun e => part (query X WL W v h) (keyRow W h) WE (EA e)) a c
    (∑ t, BK (col h t) * query X WL W v h t * (1 / 4)) μ ⟨e₀, v, he₀, he₀⟩
    (fun u => (k0_pay7 (F := Ideal) wl (rows 256 (by omega) w) x (ix2 u (col h t)) : EReal))).trans ?_
  exact Finset.sum_congr rfl fun u _ => mul_comm _ _

end Cert.Heads

end

end
-- ==== Proof.Inputs.lean ====
module

public import proofs.«01_k».proof.Proof.Gen.Pre_finite_covered
public import proofs.«01_k».proof.Proof.Constants
public import Idealize.ShloMosaic.Lib.Pointwise

/-!
# What the precondition says of the inputs, entry by entry
-/

@[expose] public section

set_option maxRecDepth 16384

noncomputable section

open Idealize.ShloMosaic Idealize.ShloMosaic.TcCoe Idealize.SL.Sem

namespace Cert.Inputs
open Cert.Pre_finite_covered Cert.Pre_finite_covered.Gen

/-- A comparison bit that is one holds of what it decides. -/
theorem of_ofBool {p : Prop} [Decidable p] (h : BitVec.ofBool (decide p) = 1#1) : p := by
  by_contra hn
  rw [decide_eq_false hn] at h
  exact absurd h (by decide)

/-- An extended real whose absolute value compares below infinity is a real number. -/
theorem real_of_abs_lt {a : EReal} (h : BitVec.ofBool (decide ((FloatOps.absf (F := Ideal) (φ := .f32) a : EReal) < ⊤)) = 1#1) :
    ∃ r : ℝ, a = r := by
  have h : max a (-a) < ⊤ := of_ofBool h
  induction a using EReal.rec with
  | bot => exact absurd h (by simp)
  | top => exact absurd h (by simp)
  | coe r => exact ⟨r, rfl⟩

/-- A disjunction of bits that came out true has a true member. -/
theorem exists_of_fold_ori {ι : Type} [DecidableEq ι] (s : Finset ι) (f : ι → BitVec 1) (h : s.fold IntOp.ori 0#1 f = 1#1) :
    ∃ i ∈ s, f i = 1#1 := by
  by_contra hn
  push Not at hn
  have h0 : ∀ b : BitVec 1, b ≠ 1#1 → b = 0#1 := by decide
  have : s.fold IntOp.ori 0#1 f = 0#1 := by
    clear h
    induction s using Finset.induction_on with
    | empty => rfl
    | insert a s ha ih =>
      rw [Finset.fold_insert ha, ih fun i hi => hn i (Finset.mem_insert_of_mem hi), h0 _ (hn a (Finset.mem_insert_self a s))]
      rfl
  exact absurd (h.symm.trans this) (by decide)

variable (x : FVec Ideal S128x128 .f32) (inc : IVec S32x128 32) (ea : FVec Ideal S32x16 .f32) (wl : FVec Ideal S128x128 .f32)
  (we : FVec Ideal S128x16 .f32) (w : FVec Ideal S384x128 .f32) (b : FVec Ideal S384 .f32) (wo : FVec Ideal S128x128 .f32)
  (bo : FVec Ideal S128 .f32)

/-- Every entry of `x` is a real number. -/
theorem x_real (h : (fn (F := Ideal) x inc ea wl we w b wo bo).1 = fun _ => 1#1) (i j : Fin 128) : ∃ r : ℝ, (x (ix2 i j) : EReal) = r := by
  have h1 := congrFun h (ix2 i j)
  unfold fn fn_part1 at h1
  pointwise [Cert.Constants.ofBits_inf] at h1
  exact real_of_abs_lt h1

/-- Every node lies on a hyperedge. -/
theorem covered (h : (fn (F := Ideal) x inc ea wl we w b wo bo).2.1 = fun _ => 1#1) (v : Fin 128) :
    ∃ e : Fin 32, inc (ix2 e v) ≠ 0#32 := by
  have h1 := congrFun h (ix1 v)
  unfold fn fn_part1 at h1
  pointwise [] at h1
  obtain ⟨e, -, he⟩ := exists_of_fold_ori _ _ h1
  have he : IntOp.cmpi .ne (inc (ix2 e v)) 0#32 = 1#1 := he
  refine ⟨e, fun hz => ?_⟩
  rw [hz] at he
  exact absurd he (by decide)

/-- Every entry of `edge_attr` is a real number. -/
theorem ea_real (h : (fn (F := Ideal) x inc ea wl we w b wo bo).2.2.1 = fun _ => 1#1) (e : Fin 32) (a : Fin 16) : ∃ r : ℝ, (ea (ix2 e a) : EReal) = r := by
  have h1 := congrFun h (ix2 e a)
  unfold fn fn_part1 at h1
  pointwise [Cert.Constants.ofBits_inf] at h1
  exact real_of_abs_lt h1

/-- Every entry of `W_lin` is a real number. -/
theorem wl_real (h : (fn (F := Ideal) x inc ea wl we w b wo bo).2.2.2.1 = fun _ => 1#1) (i j : Fin 128) : ∃ r : ℝ, (wl (ix2 i j) : EReal) = r := by
  have h1 := congrFun h (ix2 i j)
  unfold fn fn_part1 at h1
  pointwise [Cert.Constants.ofBits_inf] at h1
  exact real_of_abs_lt h1

/-- Every entry of `W_edge` is a real number. -/
theorem we_real (h : (fn (F := Ideal) x inc ea wl we w b wo bo).2.2.2.2.1 = fun _ => 1#1) (j : Fin 128) (a : Fin 16) : ∃ r : ℝ, (we (ix2 j a) : EReal) = r := by
  have h1 := congrFun h (ix2 j a)
  unfold fn fn_part1 at h1
  pointwise [Cert.Constants.ofBits_inf] at h1
  exact real_of_abs_lt h1

/-- Every entry of the query and key rows of `in_proj_w` is a real number. -/
theorem w_real (h : (fn (F := Ideal) x inc ea wl we w b wo bo).2.2.2.2.2.1 = fun _ => 1#1) (d : Fin 256) (j : Fin 128) : ∃ r : ℝ, (w (ix2 ⟨d.val, by omega⟩ j) : EReal) = r := by
  have h1 := congrFun h (ix2 d j)
  unfold fn fn_part1 at h1
  pointwise [Cert.Constants.ofBits_inf] at h1
  exact real_of_abs_lt h1

/-- The query bias is zero. -/
theorem bq_zero (h : (fn (F := Ideal) x inc ea wl we w b wo bo).2.2.2.2.2.2.1 = fun _ => 1#1) (i : Fin 128) : (b (ix1 ⟨i.val, by omega⟩) : EReal) = 0 := by
  have h1 := congrFun h (ix1 i)
  unfold fn fn_part1 at h1
  pointwise [] at h1
  exact of_ofBool h1

/-- Every entry of the key bias is a real number. -/
theorem bk_real (h : (fn (F := Ideal) x inc ea wl we w b wo bo).2.2.2.2.2.2.2.1 = fun _ => 1#1) (i : Fin 128) : ∃ r : ℝ, (b (ix1 ⟨128 + i.val, by omega⟩) : EReal) = r := by
  have h1 := congrFun h (ix1 i)
  unfold fn fn_part1 at h1
  pointwise [Cert.Constants.ofBits_inf] at h1
  exact real_of_abs_lt h1

/-- The value bias is zero. -/
theorem bv_zero (h : (fn (F := Ideal) x inc ea wl we w b wo bo).2.2.2.2.2.2.2.2.1 = fun _ => 1#1) (i : Fin 128) : (b (ix1 ⟨256 + i.val, by omega⟩) : EReal) = 0 := by
  have h1 := congrFun h (ix1 i)
  unfold fn fn_part1 at h1
  pointwise [] at h1
  exact of_ofBool h1

/-- The output bias is zero. -/
theorem bo_zero (h : (fn (F := Ideal) x inc ea wl we w b wo bo).2.2.2.2.2.2.2.2.2 = fun _ => 1#1) (i : Fin 128) : (bo (ix1 i) : EReal) = 0 := by
  have h1 := congrFun h (ix1 i)
  unfold fn fn_part1 at h1
  pointwise [] at h1
  exact of_ofBool h1

end Cert.Inputs

end

end
-- ==== Proof.Result.lean ====
module

public import proofs.«01_k».proof.Proof.Heads
public import proofs.«01_k».proof.Proof.Inputs

/-!
# The two results are one array

Under the precondition the array the kernel leaves is the array the reference returns.
-/

@[expose] public section

set_option maxRecDepth 16384

noncomputable section

open Idealize.ShloMosaic Idealize.ShloMosaic.TcCoe Idealize.SL.Sem

namespace Cert.Result
open Cert.KernelIdeal Cert.KernelIdeal.Gen Cert.KernelIdeal.Value Cert.ReferenceIdeal.Read

variable (x : FVec Ideal S128x128 .f32) (inc : IVec S32x128 32) (ea : FVec Ideal S32x16 .f32) (wl : FVec Ideal S128x128 .f32)
  (we : FVec Ideal S128x16 .f32) (w : FVec Ideal S384x128 .f32) (b : FVec Ideal S384 .f32) (wo : FVec Ideal S128x128 .f32)
  (bo : FVec Ideal S128 .f32)

/-- On inputs as the precondition asks, the scratch holds the reference's heads side by side. -/
theorem scratch_eq (hx : ∀ i j, ∃ r : ℝ, (x (ix2 i j) : EReal) = r) (hcov : ∀ v : Fin 128, ∃ e : Fin 32, inc (ix2 e v) ≠ 0#32)
    (hea : ∀ e a, ∃ r : ℝ, (ea (ix2 e a) : EReal) = r) (hwl : ∀ i j, ∃ r : ℝ, (wl (ix2 i j) : EReal) = r)
    (hwe : ∀ j a, ∃ r : ℝ, (we (ix2 j a) : EReal) = r)
    (hw : ∀ (d : Fin 256) j, ∃ r : ℝ, (w (ix2 ⟨d.val, by omega⟩ j) : EReal) = r)
    (hbq : ∀ i : Fin 128, b (ix1 ⟨i.val, by omega⟩) = (0 : EReal))
    (hbk : ∀ i : Fin 128, ∃ r : ℝ, (b (ix1 ⟨128 + i.val, by omega⟩) : EReal) = r)
    (hbv : ∀ i : Fin 128, b (ix1 ⟨256 + i.val, by omega⟩) = (0 : EReal)) (v d : Fin 128) :
    scratch x inc ea wl we w (ix2 v d) = (val_main_v63 (F := Ideal) x inc ea wl we w b (ix2 v d) : EReal) := by
  choose X hX using hx
  choose EA hEA using hea
  choose WL hWL using hwl
  choose WE hWE using hwe
  choose W hW using hw
  choose BK hBK using hbk
  rw [ctx_apply]
  exact Cert.Heads.head_eq x inc ea wl we w b hX hWL hEA hWE hW hbq hBK hbv hcov v ⟨d.val / 16, by omega⟩ ⟨d.val % 16, by omega⟩

/-- Under the precondition the kernel's array is the reference's. -/
theorem result_eq (hpre :
      (Cert.Pre_finite_covered.fn (F := Ideal) x inc ea wl we w b wo bo).1 = (fun _ => 1#1)
      ∧ (Cert.Pre_finite_covered.fn (F := Ideal) x inc ea wl we w b wo bo).2.1 = (fun _ => 1#1)
      ∧ (Cert.Pre_finite_covered.fn (F := Ideal) x inc ea wl we w b wo bo).2.2.1 = (fun _ => 1#1)
      ∧ (Cert.Pre_finite_covered.fn (F := Ideal) x inc ea wl we w b wo bo).2.2.2.1 = (fun _ => 1#1)
      ∧ (Cert.Pre_finite_covered.fn (F := Ideal) x inc ea wl we w b wo bo).2.2.2.2.1 = (fun _ => 1#1)
      ∧ (Cert.Pre_finite_covered.fn (F := Ideal) x inc ea wl we w b wo bo).2.2.2.2.2.1 = (fun _ => 1#1)
      ∧ (Cert.Pre_finite_covered.fn (F := Ideal) x inc ea wl we w b wo bo).2.2.2.2.2.2.1 = (fun _ => 1#1)
      ∧ (Cert.Pre_finite_covered.fn (F := Ideal) x inc ea wl we w b wo bo).2.2.2.2.2.2.2.1 = (fun _ => 1#1)
      ∧ (Cert.Pre_finite_covered.fn (F := Ideal) x inc ea wl we w b wo bo).2.2.2.2.2.2.2.2.1 = (fun _ => 1#1)
      ∧ (Cert.Pre_finite_covered.fn (F := Ideal) x inc ea wl we w b wo bo).2.2.2.2.2.2.2.2.2 = (fun _ => 1#1)) :
    k0_pay62 (F := Ideal) (k0_pay4 wo) (scratch x inc ea wl we w) = val_main_v69 (F := Ideal) x inc ea wl we w b wo bo := by
  obtain ⟨p0, p1, p2, p3, p4, p5, p6, p7, p8, p9⟩ := hpre
  have key := scratch_eq x inc ea wl we w b (Cert.Inputs.x_real x inc ea wl we w b wo bo p0) (Cert.Inputs.covered x inc ea wl we w b wo bo p1)
    (Cert.Inputs.ea_real x inc ea wl we w b wo bo p2) (Cert.Inputs.wl_real x inc ea wl we w b wo bo p3)
    (Cert.Inputs.we_real x inc ea wl we w b wo bo p4) (Cert.Inputs.w_real x inc ea wl we w b wo bo p5)
    (Cert.Inputs.bq_zero x inc ea wl we w b wo bo p6) (Cert.Inputs.bk_real x inc ea wl we w b wo bo p7)
    (Cert.Inputs.bv_zero x inc ea wl we w b wo bo p8)
  have hout : ∀ v d : Fin 128, (k0_pay62 (F := Ideal) (k0_pay4 wo) (scratch x inc ea wl we w) (ix2 v d) : EReal)
      = val_main_v69 (F := Ideal) x inc ea wl we w b wo bo (ix2 v d) := fun v d => by
    rw [Cert.KernelIdeal.Value.out_apply, Cert.ReferenceIdeal.Read.out_apply,
      Cert.Inputs.bo_zero x inc ea wl we w b wo bo p9, add_zero]
    simp only [key]
  funext y
  have hy := hout (y 0) (y 1)
  rwa [← eq_ix2 y] at hy

end Cert.Result

end

end
-- ==== Proof.lean ====
/- The certificate: the frames of the kernel, its idealization and the reference, that the idealization preserves the
   kernel, and that under the precondition the idealization and the reference return the same array.

   The frames are the generated ones. The idealization replaces no operation, so nothing is left to show of it. The
   value claim joins the kernel's run (`Cert.KernelIdeal.Value.final`: what its one block holds after the body) and the
   reference's run at `Cert.Result.result_eq`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_covered
public import proofs.«01_k».proof.Proof.Result
public import Idealize.ShloMosaic.Adequacy
public import Idealize.ShloMosaic.Init

@[expose] public section

noncomputable section

namespace Cert.Proof

open Idealize.ShloMosaic Idealize.SL.Sem

/-- The kernel runs, leaves its arguments alone, and ends with every semaphore at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- The reference runs and leaves its arguments alone; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree and meet the precondition, the idealization and the reference end with one array. -/
theorem algebraic : Cert.algebraic_KernelIdeal_ReferenceIdeal_pre_finite_covered := by
  intro m ρ m' ρ' hpre hagree
  refine ⟨_, Cert.KernelIdeal.Value.run_blocks (F := Ideal) m ρ, ?_⟩
  refine (θ_run Cert.ReferenceIdeal.defs _ _).mono (fun r h c => ⟨?_, (h c).2⟩) (Cert.ReferenceIdeal.Value.run (F := Ideal) m' ρ')
  obtain ⟨e0, e1, e2, e3, e4, e5, e6, e7, e8⟩ := hagree c
  rw [(h c).1, Cert.ReferenceIdeal.Read.val_main_v69_eq, e0, e1, e2, e3, e4, e5, e6, e7, e8]
  exact ((Cert.KernelIdeal.Value.final m c).trans (Cert.Result.result_eq _ _ _ _ _ _ _ _ _ (hpre c))).symm

/-- Everything the certificate claims. -/
theorem claim : Cert.Claim :=
  ⟨Cert.Kernel.Gen.facts, Cert.KernelIdeal.Gen.facts, Cert.ReferenceIdeal.Gen.facts, Cert.Pre_finite_covered.Gen.facts,
    frame_p, frame_pi, fun m ρ _ => Cert.KernelIdeal.Gen.frame m ρ, frame_ri, fun m ρ _ => frame_ri m ρ trivial, trivial, algebraic⟩

end Cert.Proof

end
